-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2 : Shape := ⟨2, ![8192, 2]⟩
abbrev S8192 : Shape := ⟨1, ![8192]⟩
abbrev S8192x3 : Shape := ⟨2, ![8192, 3]⟩
abbrev S8192x1 : Shape := ⟨2, ![8192, 1]⟩
abbrev S_ : Shape := ⟨0, ![]⟩
abbrev S32x1x256 : Shape := ⟨3, ![32, 1, 256]⟩
abbrev S32x256x3 : Shape := ⟨3, ![32, 256, 3]⟩
abbrev S65536x3 : Shape := ⟨2, ![65536, 3]⟩
abbrev S1x1x256 : Shape := ⟨3, ![1, 1, 256]⟩
abbrev S1x256x3 : Shape := ⟨3, ![1, 256, 3]⟩
abbrev S2048x3 : Shape := ⟨2, ![2048, 3]⟩
abbrev S2048x1 : Shape := ⟨2, ![2048, 1]⟩
abbrev S1x256 : Shape := ⟨2, ![1, 256]⟩
abbrev S2048x256 : Shape := ⟨2, ![2048, 256]⟩
abbrev S256x3 : Shape := ⟨2, ![256, 3]⟩
abbrev S256x256x3 : Shape := ⟨3, ![256, 256, 3]⟩

abbrev nBuf : Space → Nat
  | .hbm => 57
  | .vmem => 16
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192, .f32⟩
  | .hbm, ⟨3, _⟩ => ⟨S8192x3, .f32⟩
  | .hbm, ⟨4, _⟩ => ⟨S8192, .f32⟩
  | .hbm, ⟨5, _⟩ => ⟨S8192x2, .f32⟩
  | .hbm, ⟨6, _⟩ => ⟨S8192, .f32⟩
  | .hbm, ⟨7, _⟩ => ⟨S8192, .f32⟩
  | .hbm, ⟨8, _⟩ => ⟨S8192x2, .f32⟩
  | .hbm, ⟨9, _⟩ => ⟨S8192, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192x1, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192, .f32⟩
  | .hbm, ⟨46, _⟩ => ⟨S32x1x256, .f32⟩
  | .hbm, ⟨47, _⟩ => ⟨S8192x1, .f32⟩
  | .hbm, ⟨48, _⟩ => ⟨S8192, .f32⟩
  | .hbm, ⟨49, _⟩ => ⟨S32x1x256, .f32⟩
  | .hbm, ⟨50, _⟩ => ⟨S32x1x256, .f32⟩
  | .hbm, ⟨51, _⟩ => ⟨S32x1x256, .f32⟩
  | .hbm, ⟨52, _⟩ => ⟨S32x1x256, .f32⟩
  | .hbm, ⟨53, _⟩ => ⟨S32x1x256, .f32⟩
  | .hbm, ⟨54, _⟩ => ⟨S32x256x3, .f32⟩
  | .hbm, ⟨55, _⟩ => ⟨S65536x3, .f32⟩
  | .hbm, ⟨56, _⟩ => ⟨S256x256x3, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x256x3, .f32⟩
  | .local _ .vmem, ⟨13, _⟩ => ⟨S1x256x3, .f32⟩
  | .local _ .vmem, ⟨14, _⟩ => ⟨S2048x3, .f32⟩
  | .local _ .vmem, ⟨15, _⟩ => ⟨S2048x3, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x2 : Shape := ⟨2, ![8192, 2]⟩
abbrev S8192 : Shape := ⟨1, ![8192]⟩
abbrev S8192x3 : Shape := ⟨2, ![8192, 3]⟩
abbrev S8192x1 : Shape := ⟨2, ![8192, 1]⟩
abbrev S_ : Shape := ⟨0, ![]⟩
abbrev S256 : Shape := ⟨1, ![256]⟩
abbrev S256x256 : Shape := ⟨2, ![256, 256]⟩
abbrev S65536 : Shape := ⟨1, ![65536]⟩
abbrev S1x65536 : Shape := ⟨2, ![1, 65536]⟩
abbrev S8192x65536 : Shape := ⟨2, ![8192, 65536]⟩
abbrev S65536x8192 : Shape := ⟨2, ![65536, 8192]⟩
abbrev S65536x3 : Shape := ⟨2, ![65536, 3]⟩
abbrev S256x256x3 : Shape := ⟨3, ![256, 256, 3]⟩

abbrev nBuf : Space → Nat
  | .hbm => 97
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192, .f32⟩
  | .hbm, ⟨3, _⟩ => ⟨S8192x3, .f32⟩
  | .hbm, ⟨4, _⟩ => ⟨S8192, .f32⟩
  | .hbm, ⟨5, _⟩ => ⟨S8192x2, .f32⟩
  | .hbm, ⟨6, _⟩ => ⟨S8192, .f32⟩
  | .hbm, ⟨7, _⟩ => ⟨S8192, .f32⟩
  | .hbm, ⟨8, _⟩ => ⟨S8192x2, .f32⟩
  | .hbm, ⟨9, _⟩ => ⟨S8192, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192, .f32⟩
  | .hbm, ⟨21, _⟩ => ⟨S8192x1, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256x256, .f32⟩
  | .hbm, ⟨53, _⟩ => ⟨S256x256, .f32⟩
  | .hbm, ⟨54, _⟩ => ⟨S65536, .f32⟩
  | .hbm, ⟨55, _⟩ => ⟨S65536, .f32⟩
  | .hbm, ⟨56, _⟩ => ⟨S1x65536, .f32⟩
  | .hbm, ⟨57, _⟩ => ⟨S8192x1, .f32⟩
  | .hbm, ⟨58, _⟩ => ⟨S8192, .f32⟩
  | .hbm, ⟨59, _⟩ => ⟨S8192x1, .f32⟩
  | .hbm, ⟨60, _⟩ => ⟨S8192x65536, .f32⟩
  | .hbm, ⟨61, _⟩ => ⟨S8192x65536, .f32⟩
  | .hbm, ⟨62, _⟩ => ⟨S8192x65536, .f32⟩
  | .hbm, ⟨63, _⟩ => ⟨S1x65536, .f32⟩
  | .hbm, ⟨64, _⟩ => ⟨S8192x1, .f32⟩
  | .hbm, ⟨65, _⟩ => ⟨S8192, .f32⟩
  | .hbm, ⟨66, _⟩ => ⟨S8192x1, .f32⟩
  | .hbm, ⟨67, _⟩ => ⟨S8192x65536, .f32⟩
  | .hbm, ⟨68, _⟩ => ⟨S8192x65536, .f32⟩
  | .hbm, ⟨69, _⟩ => ⟨S8192x65536, .f32⟩
  | .hbm, ⟨70, _⟩ => ⟨S8192x1, .f32⟩
  | .hbm, ⟨71, _⟩ => ⟨S8192x65536, .f32⟩
  | .hbm, ⟨72, _⟩ => ⟨S8192x65536, .f32⟩
  | .hbm, ⟨73, _⟩ => ⟨S8192x65536, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x65536, .f32⟩
  | .hbm, ⟨79, _⟩ => ⟨S8192x65536, .f32⟩
  | .hbm, ⟨80, _⟩ => ⟨S8192x65536, .f32⟩
  | .hbm, ⟨81, _⟩ => ⟨S8192x65536, .f32⟩
  | .hbm, ⟨82, _⟩ => ⟨S8192x1, .f32⟩
  | .hbm, ⟨83, _⟩ => ⟨S8192x65536, .f32⟩
  | .hbm, ⟨84, _⟩ => ⟨S8192x65536, .f32⟩
  | .hbm, ⟨85, _⟩ => ⟨S8192x65536, .f32⟩
  | .hbm, ⟨86, _⟩ => ⟨S8192x65536, .f32⟩
  | .hbm, ⟨87, _⟩ => ⟨S_, .f32⟩
  | .hbm, ⟨88, _⟩ => ⟨S8192x65536, .f32⟩
  | .hbm, ⟨89, _⟩ => ⟨S8192x65536, .f32⟩
  | .hbm, ⟨90, _⟩ => ⟨S8192x65536, .f32⟩
  | .hbm, ⟨91, _⟩ => ⟨S8192x1, .f32⟩
  | .hbm, ⟨92, _⟩ => ⟨S8192x65536, .f32⟩
  | .hbm, ⟨93, _⟩ => ⟨S8192x65536, .f32⟩
  | .hbm, ⟨94, _⟩ => ⟨S65536x8192, .f32⟩
  | .hbm, ⟨95, _⟩ => ⟨S65536x3, .f32⟩
  | .hbm, ⟨96, _⟩ => ⟨S256x256x3, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_2 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_3 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩

abbrev nD : Nat := 1
abbrev τ : Topo := Topo.v7x

variable {F : FTy → Type} [FloatOps F]
-- ==== Proof.Leaves.lean ====
module

public import proofs.«01_k».proof.Proof.Gen.KernelIdeal.Frame
public import Idealize.ShloMosaic.Lib.Pipeline.Value

/-! # What the kernel's body leaves in the output tile

Each of the 1024 grid points works on one tile of 2048 pixels (number `t / 32`) and one chunk of 256 splats (number
`t % 32`). The first point of a tile clears the tile and adds its chunk's light; every later one adds to what the point
before left. This module says so of the tile's buffer, for any reading of the floats. -/

@[expose] public section

noncomputable section

namespace Cert.KernelIdeal.Splat

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := by funext a; fin_cases a <;> rfl
theorem zero3 : (![0, 0, 0] : Fin 3 → Nat) = fun _ => 0 := by funext a; fin_cases a <;> rfl

/-- One chunk's light added to the tile `acc`: the body's last stored value, over the chunk's seven blocks (the centres'
    two coordinates, the three entries of the inverse covariance, the opacities and the colours). -/
def add (i : grid0.Coords) (mx my i00 i01 i11 op : Vec F S1x1x256 .f32) (col : Vec F S1x256x3 .f32) (acc : Vec F S2048x3 .f32) :
    Vec F S2048x3 .f32 :=
  k0_pay2 (k0_pay5 i01) (k0_pay6 i11) (k0_pay7 op) (k0_pay8 i mx) (k0_pay9 i my) (k0_pay10 i mx i00) acc col

/-- A tile's first point leaves the chunk's light added to a cleared tile. -/
theorem first_eq (c : Dev nD) (i : grid0.Coords)
    (a0 : Memref sig .tc .vmem S1x1x256 .f32) (h0 : a0.IsWhole) (a1 : Memref sig .tc .vmem S1x1x256 .f32) (h1 : a1.IsWhole)
    (a2 : Memref sig .tc .vmem S1x1x256 .f32) (h2 : a2.IsWhole) (a3 : Memref sig .tc .vmem S1x1x256 .f32) (h3 : a3.IsWhole)
    (a4 : Memref sig .tc .vmem S1x1x256 .f32) (h4 : a4.IsWhole) (a5 : Memref sig .tc .vmem S1x1x256 .f32) (h5 : a5.IsWhole)
    (a6 : Memref sig .tc .vmem S1x256x3 .f32) (h6 : a6.IsWhole) (a7 : Memref sig .tc .vmem S2048x3 .f32) (h7 : a7.IsWhole)
    (hc : cond0_0 i) (x0 x1 x2 x3 x4 x5 : Vec F S1x1x256 .f32) (x6 : Vec F S1x256x3 .f32) :
    out0_A_7 c i a0 h0 a1 h1 a2 h2 a3 h3 a4 h4 a5 h5 a6 h6 a7 h7 hc x0 x1 x2 x3 x4 x5 x6
      = add i x0 x1 x2 x3 x4 x5 x6 (k0_pay1 (F := F)) := by
  unfold out0_A_7 add
  rw [View.read_writes_eq_canon _ _ _ (cover0_A_7 c i a0 h0 a1 h1 a2 h2 a3 h3 a4 h4 a5 h5 a6 h6 a7 h7 hc x0 x1 x2 x3 x4 x5 x6)]
  unfold kernelRun0_A
  dsimp only
  try sl_unfold_words
  rw [View.canon_cons_unit_zero (S := S2048x3) zero2, View.readCov_unit_zero (S := S2048x3) _ zero2]
  simp only [View.readAt_eq_ld, h0.read_unread, h1.read_unread, h2.read_unread, h3.read_unread, h4.read_unread,
    h5.read_unread, h6.read_unread, h7.read_unread, View.ld_unit_zero (S := S1x1x256) zero3,
    View.ld_unit_zero (S := S1x256x3) zero3, View.ld_unit_zero (S := S2048x3) zero2, shapeCast_self]

/-- Every other point leaves the chunk's light added to what it found in the tile. -/
theorem later_eq (c : Dev nD) (i : grid0.Coords)
    (a0 : Memref sig .tc .vmem S1x1x256 .f32) (h0 : a0.IsWhole) (a1 : Memref sig .tc .vmem S1x1x256 .f32) (h1 : a1.IsWhole)
    (a2 : Memref sig .tc .vmem S1x1x256 .f32) (h2 : a2.IsWhole) (a3 : Memref sig .tc .vmem S1x1x256 .f32) (h3 : a3.IsWhole)
    (a4 : Memref sig .tc .vmem S1x1x256 .f32) (h4 : a4.IsWhole) (a5 : Memref sig .tc .vmem S1x1x256 .f32) (h5 : a5.IsWhole)
    (a6 : Memref sig .tc .vmem S1x256x3 .f32) (h6 : a6.IsWhole) (a7 : Memref sig .tc .vmem S2048x3 .f32) (h7 : a7.IsWhole)
    (hc : ¬ cond0_0 i) (x0 x1 x2 x3 x4 x5 : Vec F S1x1x256 .f32) (x6 : Vec F S1x256x3 .f32) (acc : Vec F S2048x3 .f32) :
    out0_B_7 c i a0 h0 a1 h1 a2 h2 a3 h3 a4 h4 a5 h5 a6 h6 a7 h7 hc x0 x1 x2 x3 x4 x5 x6 acc
      = add i x0 x1 x2 x3 x4 x5 x6 acc := by
  unfold out0_B_7 add
  rw [View.read_writes_eq_canon _ _ _ (cover0_B_7 c i a0 h0 a1 h1 a2 h2 a3 h3 a4 h4 a5 h5 a6 h6 a7 h7 hc x0 x1 x2 x3 x4 x5 x6 acc)]
  unfold kernelRun0_B
  dsimp only
  try sl_unfold_words
  rw [View.canon_unit_zero zero2]
  simp only [View.readAt_eq_ld, h0.read_unread, h1.read_unread, h2.read_unread, h3.read_unread, h4.read_unread,
    h5.read_unread, h6.read_unread, h7.read_unread, View.ld_unit_zero (S := S1x1x256) zero3,
    View.ld_unit_zero (S := S1x256x3) zero3, View.ld_unit_zero (S := S2048x3) zero2, shapeCast_self]

variable (m : (ℓ : Loc nD τ sig) → Buf (Elt F) ℓ)

/-- `add` at grid point `t`, over the blocks the point is given. -/
def addAt (c : Dev nD) (t : Fin cfg0.N) (acc : Vec F S2048x3 .f32) : Vec F S2048x3 .f32 :=
  add (grid0.coords t) (iblk m c 0 t) (iblk m c 1 t) (iblk m c 2 t) (iblk m c 3 t) (iblk m c 4 t) (iblk m c 5 t) (iblk m c 6 t) acc

/-- After a tile's first point the buffer holds that chunk's light alone. -/
theorem outsAt_first (c : Dev nD) (t : Fin cfg0.N) (h : t.val % 32 = 0) :
    outsAt0 m c t.val t.isLt = addAt m c t (k0_pay1 (F := F)) := by
  rw [outsAt0_A m c t h]; exact first_eq ..

/-- After any later point it holds what it held before with that chunk's light added. -/
theorem outsAt_later (c : Dev nD) (t : Fin cfg0.N) (h : ¬ t.val % 32 = 0) :
    outsAt0 m c t.val t.isLt = addAt m c t (outsAt0 m c (t.val - 1) (Nat.lt_of_le_of_lt (Nat.sub_le _ _) t.isLt)) := by
  rw [outsAt0_B m c t h]; exact later_eq ..

end Cert.KernelIdeal.Splat

end
-- ==== Proof.Light.lean ====
module

public import Idealize.ShloMosaic.PureOps.Ideal

/-! # The light of one splat at one point, over the extended reals

The formula both programs evaluate, as functions of numbers: a splat is given by its centre, the logarithms of its two
scales, its rotation and its opacity; its covariance is the rotated diagonal matrix of the squared scales, and its light
at a point is `exp (-½ q)` times the opacity, `q` the quadratic form of the inverse covariance at the offset from the
centre. The constants are kept as the binary words the programs hold. -/

@[expose] public section

noncomputable section

namespace Cert.Splat

open Idealize.ShloMosaic

/-- The square of a scale, from its logarithm. -/
def scaleSq (l : EReal) : EReal := Ideal.exp l * Ideal.exp l

/-- The covariance's horizontal entry. -/
def varX (l0 l1 r : EReal) : EReal := Ideal.cos r * Ideal.cos r * scaleSq l0 + Ideal.sin r * Ideal.sin r * scaleSq l1

/-- The covariance's mixed entry. -/
def cov (l0 l1 r : EReal) : EReal := Ideal.cos r * Ideal.sin r * (scaleSq l0 - scaleSq l1)

/-- The covariance's vertical entry. -/
def varY (l0 l1 r : EReal) : EReal := Ideal.sin r * Ideal.sin r * scaleSq l0 + Ideal.cos r * Ideal.cos r * scaleSq l1

/-- The covariance's determinant, kept off zero by the programs' small constant. -/
def det (l0 l1 r : EReal) : EReal :=
  varX l0 l1 r * varY l0 l1 r - cov l0 l1 r * cov l0 l1 r + Ideal.ofBits .f32 0x322BCC77#32

/-- The inverse covariance's horizontal entry. -/
def invX (l0 l1 r : EReal) : EReal := Ideal.div (varY l0 l1 r) (det l0 l1 r)

/-- The inverse covariance's mixed entry. -/
def invM (l0 l1 r : EReal) : EReal := Ideal.div (-cov l0 l1 r) (det l0 l1 r)

/-- The inverse covariance's vertical entry. -/
def invY (l0 l1 r : EReal) : EReal := Ideal.div (varX l0 l1 r) (det l0 l1 r)

/-- The quadratic form with entries `a`, `b`, `d` at the offset `(u, v)`. -/
def quad (a b d u v : EReal) : EReal := a * u * u + Ideal.ofBits .f32 0x40000000#32 * b * u * v + d * v * v

/-- The light, per unit of colour, at the offset `(u, v)` of a splat of inverse covariance `a`, `b`, `d` and opacity
    `o`. -/
def light (a b d o u v : EReal) : EReal := Ideal.exp (Ideal.ofBits .f32 0xBF000000#32 * quad a b d u v) * o

/-- What splat `n` gives one colour at column `x` and row `y`: its light at the pixel's centre, half a pixel further each
    way, times its colour `col`. The splats' data are read by number: centre `mx`, `my`, logarithms of the scales `l0`,
    `l1`, rotation `r`, opacity `o`. -/
def shine (mx my l0 l1 r o col : Fin 8192 → EReal) (x y : ℕ) (n : Fin 8192) : EReal :=
  light (invX (l0 n) (l1 n) (r n)) (invM (l0 n) (l1 n) (r n)) (invY (l0 n) (l1 n) (r n)) (o n)
    (((x : ℝ) : EReal) + Ideal.ofBits .f32 0x3F000000#32 - mx n)
    (((y : ℝ) : EReal) + Ideal.ofBits .f32 0x3F000000#32 - my n) * col n

/-- The image as the formula gives it, at column `x` and row `y`: the sum over all the splats. -/
def image (mx my l0 l1 r o col : Fin 8192 → EReal) (x y : ℕ) : EReal :=
  ∑ n : Fin 8192, shine mx my l0 l1 r o col x y n

end Cert.Splat

end
-- ==== Proof.Pixel.lean ====
module

public import Idealize.ShloMosaic.PureOps.Ideal
public import Idealize.ShloMosaic.PureOps.IdealRules
public import Idealize.ShloMosaic.Lib.WordArith

/-! # A pixel's number, its row and its column

The kernel numbers the pixels of the 256 × 256 image row by row and gets a pixel's row as the floor of its number over
256, its column as what is left. Over the extended reals this is exact division of whole numbers. -/

@[expose] public section

noncomputable section

namespace Cert.Splat

open Idealize.ShloMosaic

/-- A whole number held in a signed word reads as that number. -/
theorem word_value (n : ℕ) (h : n < 2 ^ 31) :
    (FloatOps.sitofp FTy.f32 (BitVec.ofNat 32 n) : Ideal .f32) = ((n : ℝ) : EReal) := by
  show (((BitVec.ofNat 32 n).toInt : ℝ) : EReal) = _
  rw [WordArith.toInt_ofNat_small n h]
  simp

/-- The word of pixel `r` of tile `j` is that of the number `j * 2048 + r`. -/
theorem pixel_word (j r : ℕ) :
    IntOp.addi (BitVec.ofNat 32 r) (Scalar.muli (BitVec.ofNat 32 j) 2048#32) = BitVec.ofNat 32 (j * 2048 + r) := by
  show BitVec.ofNat 32 r + BitVec.ofNat 32 j * BitVec.ofNat 32 2048 = _
  rw [← BitVec.ofNat_mul, ← BitVec.ofNat_add, Nat.add_comm]

/-- The constant 1/256. -/
theorem ofBits_inv256 : Ideal.ofBits .f32 0x3B800000#32 = (((1 : ℝ) / 256 : ℝ) : EReal) := by
  simp [Ideal.ofBits, Ideal.ieee, -EReal.coe_mul]; norm_num

/-- The constant 256. -/
theorem ofBits_256 : Ideal.ofBits .f32 0x43800000#32 = ((256 : ℝ) : EReal) := by
  simp [Ideal.ofBits, Ideal.ieee, -EReal.coe_mul]; norm_num

/-- The floor of a pixel's number over 256 is its row. -/
theorem row_value (n : ℕ) :
    Ideal.liftRound Int.floor (((n : ℝ) : EReal) * Ideal.ofBits .f32 0x3B800000#32) = (((n / 256 : ℕ) : ℝ) : EReal) := by
  rw [ofBits_inv256, ← EReal.coe_mul, Ideal.liftRound_coe, mul_one_div]
  have h : ⌊(n : ℝ) / 256⌋ = ((n / 256 : ℕ) : ℤ) := by
    have hd : ((256 * (n / 256) + n % 256 : ℕ) : ℝ) = (n : ℝ) := by rw [Nat.div_add_mod]
    have hm : ((n % 256 : ℕ) : ℝ) < 256 := by exact_mod_cast Nat.mod_lt n (by decide : 0 < 256)
    have h0 : (0 : ℝ) ≤ ((n % 256 : ℕ) : ℝ) := Nat.cast_nonneg _
    push_cast at hd
    rw [Int.floor_eq_iff, Int.cast_natCast]
    constructor <;> linarith
  rw [h, Int.cast_natCast]

/-- A pixel's number less 256 times its row is its column. -/
theorem col_value (n : ℕ) :
    ((n : ℝ) : EReal) - (((n / 256 : ℕ) : ℝ) : EReal) * Ideal.ofBits .f32 0x43800000#32 = (((n % 256 : ℕ) : ℝ) : EReal) := by
  rw [ofBits_256, ← EReal.coe_mul, ← EReal.coe_sub]
  congr 1
  have h : ((256 * (n / 256) + n % 256 : ℕ) : ℝ) = (n : ℝ) := by rw [Nat.div_add_mod]
  push_cast at h
  linarith

end Cert.Splat

end
-- ==== Proof.Chunk.lean ====
module

public import proofs.«01_k».proof.Proof.Leaves
public import proofs.«01_k».proof.Proof.Light
public import proofs.«01_k».proof.Proof.Pixel
public import Idealize.ShloMosaic.Lib.Pointwise

/-! # One chunk's light, read at a pixel

Over the extended reals the body's product with the colours is a sum over the chunk's 256 splats, and each term is the
formula's light at the pixel's centre. -/

@[expose] public section

noncomputable section

namespace Cert.KernelIdeal.Splat

open Cert.KernelIdeal Cert.KernelIdeal.Gen Idealize.ShloMosaic Idealize.ShloMosaic.TcCoe Idealize.SL.Sem
open Cert.Splat

/-- The cleared tile holds zeros. -/
theorem cleared_apply (r : Fin 2048) (ch : Fin 3) : (k0_pay1 (F := Ideal)) (ix2 r ch) = (0 : EReal) := by
  pointwise [k0_pay1]

/-- The offsets' horizontal part at pixel `r` of a tile and splat `l` of a chunk: the pixel's column, and half a pixel,
    less the centre's. -/
theorem dx_apply (i : grid0.Coords) (mx : Vec Ideal S1x1x256 .f32) (r : Fin 2048) (l : Fin 256) :
    k0_pay8 (F := Ideal) i mx (ix2 r l)
      = (((((i 0).val * 2048 + r.val) % 256 : ℕ) : ℝ) : EReal) + Ideal.ofBits .f32 0x3F000000#32 - mx (ix3 0 0 l) := by
  have h : (i 0).val < 32 := (i 0).isLt
  pointwise [k0_pay8, k0_pay4, k0_pay3]
  rw [pixel_word, word_value _ (by omega), row_value, col_value]

/-- The offsets' vertical part: the pixel's row, and half a pixel, less the centre's. -/
theorem dy_apply (i : grid0.Coords) (my : Vec Ideal S1x1x256 .f32) (r : Fin 2048) (l : Fin 256) :
    k0_pay9 (F := Ideal) i my (ix2 r l)
      = (((((i 0).val * 2048 + r.val) / 256 : ℕ) : ℝ) : EReal) + Ideal.ofBits .f32 0x3F000000#32 - my (ix3 0 0 l) := by
  have h : (i 0).val < 32 := (i 0).isLt
  pointwise [k0_pay9, k0_pay4, k0_pay3]
  rw [pixel_word, word_value _ (by omega), row_value]

/-- The first factor of the quadratic form's first term. -/
theorem adx_apply (i : grid0.Coords) (mx i00 : Vec Ideal S1x1x256 .f32) (r : Fin 2048) (l : Fin 256) :
    k0_pay10 (F := Ideal) i mx i00 (ix2 r l) = i00 (ix3 0 0 l) * k0_pay8 (F := Ideal) i mx (ix2 r l) := by
  pointwise [k0_pay10]

/-- THE BODY AT A PIXEL: what was in the tile there, and the sum over the chunk's splats of the light at the pixel times
    the colour. -/
theorem add_apply (i : grid0.Coords) (mx my i00 i01 i11 op : Vec Ideal S1x1x256 .f32) (col : Vec Ideal S1x256x3 .f32)
    (acc : Vec Ideal S2048x3 .f32) (r : Fin 2048) (ch : Fin 3) :
    add i mx my i00 i01 i11 op col acc (ix2 r ch) = acc (ix2 r ch)
      + ∑ l : Fin 256, light (i00 (ix3 0 0 l)) (i01 (ix3 0 0 l)) (i11 (ix3 0 0 l)) (op (ix3 0 0 l))
          ((((((i 0).val * 2048 + r.val) % 256 : ℕ) : ℝ) : EReal) + Ideal.ofBits .f32 0x3F000000#32 - mx (ix3 0 0 l))
          ((((((i 0).val * 2048 + r.val) / 256 : ℕ) : ℝ) : EReal) + Ideal.ofBits .f32 0x3F000000#32 - my (ix3 0 0 l))
          * col (ix3 0 l ch) := by
  unfold add
  pointwise [k0_pay2, k0_pay5, k0_pay6, k0_pay7, light, quad, adx_apply, dx_apply, dy_apply]

end Cert.KernelIdeal.Splat

end
-- ==== Proof.Inputs.lean ====
module

public import proofs.«01_k».proof.Proof.Chunk

/-! # The blocks a grid point is given

Before the region the host computes, of the arguments, the splats' centres, inverse covariances, opacities and colours,
each cut in 32 chunks of 256 splats. Splat `l` of chunk `k` is splat `k * 256 + l`; grid point `t` is given chunk
`t % 32`. -/

@[expose] public section

noncomputable section

namespace Cert.KernelIdeal.Splat

open Cert.KernelIdeal Cert.KernelIdeal.Gen Idealize.ShloMosaic Idealize.ShloMosaic.TcCoe Idealize.SL.Sem
open Cert.Splat

variable (m : (ℓ : Loc nD τ sig) → Buf (Elt Ideal) ℓ) (c : Dev nD)

/-- The centres' horizontal coordinates. -/
def mxs (n : Fin 8192) : EReal := m ((c : Thread nD τ).loc main_arg0) (ix2 n 0)
/-- The centres' vertical coordinates. -/
def mys (n : Fin 8192) : EReal := m ((c : Thread nD τ).loc main_arg0) (ix2 n 1)
/-- The logarithms of the first scales. -/
def l0s (n : Fin 8192) : EReal := m ((c : Thread nD τ).loc main_arg1) (ix2 n 0)
/-- The logarithms of the second scales. -/
def l1s (n : Fin 8192) : EReal := m ((c : Thread nD τ).loc main_arg1) (ix2 n 1)
/-- The rotations. -/
def rots (n : Fin 8192) : EReal := m ((c : Thread nD τ).loc main_arg2) (ix1 n)
/-- The colours, one channel's. -/
def cols (ch : Fin 3) (n : Fin 8192) : EReal := m ((c : Thread nD τ).loc main_arg3) (ix2 n ch)
/-- The opacities. -/
def ops (n : Fin 8192) : EReal := m ((c : Thread nD τ).loc main_arg4) (ix1 n)

/-- Splat `l` of chunk `k % 32`, by its number among all. -/
def splat (k : ℕ) (l : Fin 256) : Fin 8192 := ⟨k % 32 * 256 + l.val, by omega⟩

/-! ## The arrays the host leaves for the region -/

/-- Operand 0 of the region holds the centres' horizontal coordinates. -/
theorem array_mx (k : Fin 32) (l : Fin 256) :
    V m c main_v40 (ix3 k 0 l) = mxs m c (splat k.val l) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 1 of the region holds the centres' vertical coordinates. -/
theorem array_my (k : Fin 32) (l : Fin 256) :
    V m c main_v43 (ix3 k 0 l) = mys m c (splat k.val l) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 2 of the region holds the inverse covariances' horizontal entries. -/
theorem array_invX (k : Fin 32) (l : Fin 256) :
    V m c main_v44 (ix3 k 0 l) = invX (l0s m c (splat k.val l)) (l1s m c (splat k.val l)) (rots m c (splat k.val l)) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 3 of the region holds the inverse covariances' mixed entries. -/
theorem array_invM (k : Fin 32) (l : Fin 256) :
    V m c main_v45 (ix3 k 0 l) = invM (l0s m c (splat k.val l)) (l1s m c (splat k.val l)) (rots m c (splat k.val l)) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 4 of the region holds the inverse covariances' vertical entries. -/
theorem array_invY (k : Fin 32) (l : Fin 256) :
    V m c main_v46 (ix3 k 0 l) = invY (l0s m c (splat k.val l)) (l1s m c (splat k.val l)) (rots m c (splat k.val l)) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 5 of the region holds the opacities. -/
theorem array_op (k : Fin 32) (l : Fin 256) :
    V m c main_v47 (ix3 k 0 l) = ops m c (splat k.val l) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-- Operand 6 of the region holds the colours. -/
theorem array_col (k : Fin 32) (l : Fin 256) (ch : Fin 3) :
    V m c main_v48 (ix3 k l ch) = cols m c ch (splat k.val l) := by
  have hs : splat k.val l = ⟨k.val * 256 + l.val, by omega⟩ := Fin.ext (by simp [splat, Nat.mod_eq_of_lt k.isLt])
  rw [hs]
  unfold V V0 hostOps0
  simp only [List.flatten_cons, List.flatten_nil, List.append_nil]
  after_results_simp
  pointwise
  rfl

/-! ## The blocks -/

/-- Every input's block index at point `t` is `t % 32` on the chunk axis and zero on the others. -/
theorem chunk_index : ∀ t : Fin cfg0.N,
    win0_0.index t (0 : Fin 3) = t.val % 32 ∧ win0_0.index t (1 : Fin 3) = 0 ∧ win0_0.index t (2 : Fin 3) = 0
    ∧ win0_1.index t (0 : Fin 3) = t.val % 32 ∧ win0_1.index t (1 : Fin 3) = 0 ∧ win0_1.index t (2 : Fin 3) = 0
    ∧ win0_2.index t (0 : Fin 3) = t.val % 32 ∧ win0_2.index t (1 : Fin 3) = 0 ∧ win0_2.index t (2 : Fin 3) = 0
    ∧ win0_3.index t (0 : Fin 3) = t.val % 32 ∧ win0_3.index t (1 : Fin 3) = 0 ∧ win0_3.index t (2 : Fin 3) = 0
    ∧ win0_4.index t (0 : Fin 3) = t.val % 32 ∧ win0_4.index t (1 : Fin 3) = 0 ∧ win0_4.index t (2 : Fin 3) = 0
    ∧ win0_5.index t (0 : Fin 3) = t.val % 32 ∧ win0_5.index t (1 : Fin 3) = 0 ∧ win0_5.index t (2 : Fin 3) = 0
    ∧ win0_6.index t (0 : Fin 3) = t.val % 32 ∧ win0_6.index t (1 : Fin 3) = 0 ∧ win0_6.index t (2 : Fin 3) = 0 :=
  (by decide +kernel : ∀ t : Fin grid0.N, _)

/-- Block 0 at a grid point: the centres' horizontal coordinates of its chunk. -/
theorem block_mx (t : Fin cfg0.N) (l : Fin 256) :
    iblk m c 0 t (ix3 0 0 l) = mxs m c (splat t.val l) := by
  obtain ⟨e00, e01, e02, e10, e11, e12, e20, e21, e22, e30, e31, e32, e40, e41, e42, e50, e51, e52, e60, e61, e62⟩ := chunk_index t
  have hp : ((cfg0.win 0).blk t).view.emb (ix3 0 0 l) = (ix3 ⟨t.val % 32, by omega⟩ 0 l) := by
    funext a; apply Fin.ext
    match a with
    | ⟨0, _⟩ => show win0_0.index t (0 : Fin 3) * 1 + 1 * 0 = t.val % 32; omega
    | ⟨1, _⟩ => show win0_0.index t (1 : Fin 3) * 1 + 1 * 0 = 0; omega
    | ⟨2, _⟩ => show win0_0.index t (2 : Fin 3) * 256 + 1 * l.val = l.val; omega
  show V m c main_v40 (((cfg0.win 0).blk t).view.emb (ix3 0 0 l)) = _
  rw [hp, array_mx]
  simp only [splat, Nat.mod_mod]

/-- Block 1 at a grid point: the centres' vertical coordinates of its chunk. -/
theorem block_my (t : Fin cfg0.N) (l : Fin 256) :
    iblk m c 1 t (ix3 0 0 l) = mys m c (splat t.val l) := by
  obtain ⟨e00, e01, e02, e10, e11, e12, e20, e21, e22, e30, e31, e32, e40, e41, e42, e50, e51, e52, e60, e61, e62⟩ := chunk_index t
  have hp : ((cfg0.win 1).blk t).view.emb (ix3 0 0 l) = (ix3 ⟨t.val % 32, by omega⟩ 0 l) := by
    funext a; apply Fin.ext
    match a with
    | ⟨0, _⟩ => show win0_1.index t (0 : Fin 3) * 1 + 1 * 0 = t.val % 32; omega
    | ⟨1, _⟩ => show win0_1.index t (1 : Fin 3) * 1 + 1 * 0 = 0; omega
    | ⟨2, _⟩ => show win0_1.index t (2 : Fin 3) * 256 + 1 * l.val = l.val; omega
  show V m c main_v43 (((cfg0.win 1).blk t).view.emb (ix3 0 0 l)) = _
  rw [hp, array_my]
  simp only [splat, Nat.mod_mod]

/-- Block 2 at a grid point: the inverse covariances' horizontal entries of its chunk. -/
theorem block_invX (t : Fin cfg0.N) (l : Fin 256) :
    iblk m c 2 t (ix3 0 0 l) = invX (l0s m c (splat t.val l)) (l1s m c (splat t.val l)) (rots m c (splat t.val l)) := by
  obtain ⟨e00, e01, e02, e10, e11, e12, e20, e21, e22, e30, e31, e32, e40, e41, e42, e50, e51, e52, e60, e61, e62⟩ := chunk_index t
  have hp : ((cfg0.win 2).blk t).view.emb (ix3 0 0 l) = (ix3 ⟨t.val % 32, by omega⟩ 0 l) := by
    funext a; apply Fin.ext
    match a with
    | ⟨0, _⟩ => show win0_2.index t (0 : Fin 3) * 1 + 1 * 0 = t.val % 32; omega
    | ⟨1, _⟩ => show win0_2.index t (1 : Fin 3) * 1 + 1 * 0 = 0; omega
    | ⟨2, _⟩ => show win0_2.index t (2 : Fin 3) * 256 + 1 * l.val = l.val; omega
  show V m c main_v44 (((cfg0.win 2).blk t).view.emb (ix3 0 0 l)) = _
  rw [hp, array_invX]
  simp only [splat, Nat.mod_mod]

/-- Block 3 at a grid point: the inverse covariances' mixed entries of its chunk. -/
theorem block_invM (t : Fin cfg0.N) (l : Fin 256) :
    iblk m c 3 t (ix3 0 0 l) = invM (l0s m c (splat t.val l)) (l1s m c (splat t.val l)) (rots m c (splat t.val l)) := by
  obtain ⟨e00, e01, e02, e10, e11, e12, e20, e21, e22, e30, e31, e32, e40, e41, e42, e50, e51, e52, e60, e61, e62⟩ := chunk_index t
  have hp : ((cfg0.win 3).blk t).view.emb (ix3 0 0 l) = (ix3 ⟨t.val % 32, by omega⟩ 0 l) := by
    funext a; apply Fin.ext
    match a with
    | ⟨0, _⟩ => show win0_3.index t (0 : Fin 3) * 1 + 1 * 0 = t.val % 32; omega
    | ⟨1, _⟩ => show win0_3.index t (1 : Fin 3) * 1 + 1 * 0 = 0; omega
    | ⟨2, _⟩ => show win0_3.index t (2 : Fin 3) * 256 + 1 * l.val = l.val; omega
  show V m c main_v45 (((cfg0.win 3).blk t).view.emb (ix3 0 0 l)) = _
  rw [hp, array_invM]
  simp only [splat, Nat.mod_mod]

/-- Block 4 at a grid point: the inverse covariances' vertical entries of its chunk. -/
theorem block_invY (t : Fin cfg0.N) (l : Fin 256) :
    iblk m c 4 t (ix3 0 0 l) = invY (l0s m c (splat t.val l)) (l1s m c (splat t.val l)) (rots m c (splat t.val l)) := by
  obtain ⟨e00, e01, e02, e10, e11, e12, e20, e21, e22, e30, e31, e32, e40, e41, e42, e50, e51, e52, e60, e61, e62⟩ := chunk_index t
  have hp : ((cfg0.win 4).blk t).view.emb (ix3 0 0 l) = (ix3 ⟨t.val % 32, by omega⟩ 0 l) := by
    funext a; apply Fin.ext
    match a with
    | ⟨0, _⟩ => show win0_4.index t (0 : Fin 3) * 1 + 1 * 0 = t.val % 32; omega
    | ⟨1, _⟩ => show win0_4.index t (1 : Fin 3) * 1 + 1 * 0 = 0; omega
    | ⟨2, _⟩ => show win0_4.index t (2 : Fin 3) * 256 + 1 * l.val = l.val; omega
  show V m c main_v46 (((cfg0.win 4).blk t).view.emb (ix3 0 0 l)) = _
  rw [hp, array_invY]
  simp only [splat, Nat.mod_mod]

/-- Block 5 at a grid point: the opacities of its chunk. -/
theorem block_op (t : Fin cfg0.N) (l : Fin 256) :
    iblk m c 5 t (ix3 0 0 l) = ops m c (splat t.val l) := by
  obtain ⟨e00, e01, e02, e10, e11, e12, e20, e21, e22, e30, e31, e32, e40, e41, e42, e50, e51, e52, e60, e61, e62⟩ := chunk_index t
  have hp : ((cfg0.win 5).blk t).view.emb (ix3 0 0 l) = (ix3 ⟨t.val % 32, by omega⟩ 0 l) := by
    funext a; apply Fin.ext
    match a with
    | ⟨0, _⟩ => show win0_5.index t (0 : Fin 3) * 1 + 1 * 0 = t.val % 32; omega
    | ⟨1, _⟩ => show win0_5.index t (1 : Fin 3) * 1 + 1 * 0 = 0; omega
    | ⟨2, _⟩ => show win0_5.index t (2 : Fin 3) * 256 + 1 * l.val = l.val; omega
  show V m c main_v47 (((cfg0.win 5).blk t).view.emb (ix3 0 0 l)) = _
  rw [hp, array_op]
  simp only [splat, Nat.mod_mod]

/-- Block 6 at a grid point: the colours of its chunk. -/
theorem block_col (t : Fin cfg0.N) (l : Fin 256) (ch : Fin 3) :
    iblk m c 6 t (ix3 0 l ch) = cols m c ch (splat t.val l) := by
  obtain ⟨e00, e01, e02, e10, e11, e12, e20, e21, e22, e30, e31, e32, e40, e41, e42, e50, e51, e52, e60, e61, e62⟩ := chunk_index t
  have hp : ((cfg0.win 6).blk t).view.emb (ix3 0 l ch) = (ix3 ⟨t.val % 32, by omega⟩ l ch) := by
    funext a; apply Fin.ext
    match a with
    | ⟨0, _⟩ => show win0_6.index t (0 : Fin 3) * 1 + 1 * 0 = t.val % 32; omega
    | ⟨1, _⟩ => show win0_6.index t (1 : Fin 3) * 256 + 1 * l.val = l.val; omega
    | ⟨2, _⟩ => show win0_6.index t (2 : Fin 3) * 3 + 1 * ch.val = ch.val; omega
  show V m c main_v48 (((cfg0.win 6).blk t).view.emb (ix3 0 l ch)) = _
  rw [hp, array_col]
  simp only [splat, Nat.mod_mod]

end Cert.KernelIdeal.Splat

end
-- ==== Proof.Tile.lean ====
module

public import proofs.«01_k».proof.Proof.Inputs
public import Idealize.ShloMosaic.Lib.Pointwise.Sums

/-! # The region's array

By induction over the grid the tile's buffer holds, after point `t`, the light of the chunks up to `t % 32`; the tile is
written back at the last of its points, when that is all of them. The 32 tiles fill the array, so it ends holding the
formula's image, the pixels numbered row by row. -/

@[expose] public section

noncomputable section

namespace Cert.KernelIdeal.Splat

open Cert.KernelIdeal Cert.KernelIdeal.Gen Idealize.ShloMosaic Idealize.ShloMosaic.TcCoe Idealize.SL.Sem
open Cert.Splat

variable (m : (ℓ : Loc nD τ sig) → Buf (Elt Ideal) ℓ) (c : Dev nD)

/-- What splat `n` gives channel `ch` of pixel `p`. -/
def shineAt (p : ℕ) (ch : Fin 3) (n : Fin 8192) : EReal :=
  shine (mxs m c) (mys m c) (l0s m c) (l1s m c) (rots m c) (ops m c) (cols m c ch) (p % 256) (p / 256) n

/-- What chunk `k % 32` gives channel `ch` of pixel `p`. -/
def chunkSum (p : ℕ) (ch : Fin 3) (k : ℕ) : EReal := ∑ l : Fin 256, shineAt m c p ch (splat k l)

/-- Chunks are counted modulo their number. -/
theorem chunkSum_mod (p : ℕ) (ch : Fin 3) (k : ℕ) : chunkSum m c p ch k = chunkSum m c p ch (k % 32) := by
  unfold chunkSum splat; simp only [Nat.mod_mod]

/-- A grid point's first coordinate, the tile. -/
theorem tile_coord (t : Fin cfg0.N) : (grid0.coords t 0).val = t.val / 32 := by
  have h : t.val < 1024 := lt_of_lt_of_eq t.isLt (show cfg0.N = 1024 from N_0)
  have e : (grid0.coords t 0).val = t.val / 32 % 32 := Pipeline.Grid.coords_val t 0 (by decide) rfl
  omega

/-- A grid point adds its chunk's light to each pixel of its tile. -/
theorem addAt_apply (t : Fin cfg0.N) (acc : Vec Ideal S2048x3 .f32) (r : Fin 2048) (ch : Fin 3) :
    addAt m c t acc (ix2 r ch) = acc (ix2 r ch) + chunkSum m c (t.val / 32 * 2048 + r.val) ch t.val := by
  unfold addAt chunkSum shineAt shine
  rw [add_apply, tile_coord]
  simp only [block_mx, block_my, block_invX, block_invM, block_invY, block_op, block_col]

/-- After point `n` the tile holds, at each pixel, the light of the chunks `0 … n % 32`. -/
theorem tile_apply (n : ℕ) (hn : n < cfg0.N) (r : Fin 2048) (ch : Fin 3) :
    outsAt0 m c n hn (ix2 r ch)
      = ∑ k ∈ Finset.range (n % 32 + 1), chunkSum m c (n / 32 * 2048 + r.val) ch k := by
  induction n with
  | zero =>
    rw [outsAt_first m c ⟨0, hn⟩ rfl, addAt_apply, cleared_apply, zero_add]
    simp
  | succ n ih =>
    by_cases h : (n + 1) % 32 = 0
    · rw [outsAt_first m c ⟨n + 1, hn⟩ h, addAt_apply, cleared_apply, zero_add, h, chunkSum_mod, h]
      simp
    · have hd : (n + 1) / 32 = n / 32 := by omega
      have hm : (n + 1) % 32 = n % 32 + 1 := by omega
      rw [outsAt_later m c ⟨n + 1, hn⟩ h, addAt_apply, chunkSum_mod, hd, hm, Finset.sum_range_succ]
      congr 1
      exact ih (Nat.lt_of_succ_lt hn)

/-- The chunks together are all the splats. -/
theorem sum_chunks (p : ℕ) (ch : Fin 3) :
    ∑ k ∈ Finset.range 32, chunkSum m c p ch k
      = image (mxs m c) (mys m c) (l0s m c) (l1s m c) (rots m c) (ops m c) (cols m c ch) (p % 256) (p / 256) := by
  unfold image
  rw [Fin.sum_univ_tiles 32 256 rfl, Finset.sum_range]
  refine Finset.sum_congr rfl fun k _ => ?_
  unfold chunkSum shineAt
  refine Finset.sum_congr rfl fun l _ => ?_
  have hs : splat k.val l = ⟨k.val * 256 + l.val, by omega⟩ := Fin.ext (by simp [splat, Nat.mod_eq_of_lt k.isLt])
  rw [hs]

/-- The image as the region lays it out: a row per pixel, in the order of their numbers, and a column per channel. -/
def flat : Buf (Elt Ideal) ((c : Thread nD τ).loc main_v49) := fun i =>
  image (mxs m c) (mys m c) (l0s m c) (l1s m c) (rots m c) (ops m c) (cols m c (i 1)) ((i 0).val % 256) ((i 0).val / 256)

/-- The output's block index is the tile's number on the pixels' axis and zero on the channels'. -/
theorem tile_index : ∀ t : Fin cfg0.N, win0_7.index t (0 : Fin 2) = t.val / 32 ∧ win0_7.index t (1 : Fin 2) = 0 :=
  (by decide +kernel : ∀ t : Fin grid0.N, _)

/-- What a tile's last point writes back is the image's tile. -/
theorem written_eq (t : Fin cfg0.N) (hf : (cfg0.win 7).flush t = true) :
    (dats m 0 c).flushed 7 t = ((cfg0.win 7).blk t).view.read (Elt Ideal) (flat m c) := by
  show (cfg0.win 7).cut (grid0.coords t) ((dats m 0 c).after 7 t) = _
  rw [after0_7]
  have hm : t.val % 32 = 31 := (flush0_7 t).mp hf
  obtain ⟨e0, e1⟩ := tile_index t
  funext y
  have hr : (y 0).val < 2048 := (y 0).isLt
  have hc : (y 1).val < 3 := (y 1).isLt
  have hx : (cfg0.win 7).xinj (grid0.coords t) y = ix2 ⟨(y 0).val, hr⟩ ⟨(y 1).val, hc⟩ := by
    funext a; apply Fin.ext
    match a with
    | ⟨0, _⟩ => rfl
    | ⟨1, _⟩ => rfl
  have h0 : (((cfg0.win 7).blk t).view.emb y 0).val = t.val / 32 * 2048 + (y 0).val := by
    show win0_7.index t (0 : Fin 2) * 2048 + 1 * (y 0).val = _
    omega
  have h1 : ((cfg0.win 7).blk t).view.emb y 1 = ⟨(y 1).val, hc⟩ := by
    apply Fin.ext
    show win0_7.index t (1 : Fin 2) * 3 + 1 * (y 1).val = (y 1).val
    omega
  have hl := tile_apply m c t.val t.isLt ⟨(y 0).val, hr⟩ ⟨(y 1).val, hc⟩
  have hg : flat m c (((cfg0.win 7).blk t).view.emb y) = image (mxs m c) (mys m c) (l0s m c) (l1s m c) (rots m c)
      (ops m c) (cols m c ⟨(y 1).val, hc⟩) ((t.val / 32 * 2048 + (y 0).val) % 256) ((t.val / 32 * 2048 + (y 0).val) / 256) := by
    unfold flat
    rw [h0, h1]
    rfl
  rw [hm, sum_chunks] at hl
  generalize outsAt0 m c t.val t.isLt = X at hl ⊢
  generalize flat m c = G at hg ⊢
  show X ((cfg0.win 7).xinj (grid0.coords t) y) = G (((cfg0.win 7).blk t).view.emb y)
  rw [hx, hl, hg]

/-- An index of the array is in point `t`'s block when each of its coordinates is in the block's range. -/
theorem mem_block (t : Fin cfg0.N) (i : S65536x3.Idx)
    (h : ∀ a : Fin 2, win0_7.index t a * S2048x3.size a ≤ (i a).val ∧ (i a).val < win0_7.index t a * S2048x3.size a + S2048x3.size a) :
    i ∈ ((cfg0.win 7).blk t).view.set := by
  show i ∈ ((View.whole main_v49).slice (win0_7.rect t)).set
  rw [View.set_slice_whole, Rect.mem_set_unit]
  exact h

/-- Every index of the array is in the block some tile's last point writes back. -/
theorem covered (i : S65536x3.Idx) : ∃ t : Fin cfg0.N, (cfg0.win 7).flush t = true ∧ i ∈ ((cfg0.win 7).blk t).view.set := by
  have h0 : (i 0).val < 65536 := (i 0).isLt
  have h1 : (i 1).val < 3 := (i 1).isLt
  have hN : (i 0).val / 2048 * 32 + 31 < cfg0.N := by rw [show cfg0.N = 1024 from N_0]; omega
  obtain ⟨e0, e1⟩ := tile_index ⟨_, hN⟩
  refine ⟨⟨_, hN⟩, (flush0_7 _).mpr (by dsimp only; omega), mem_block _ i fun a => ?_⟩
  dsimp only at e0
  match a with
  | ⟨0, _⟩ => show win0_7.index ⟨_, hN⟩ (0 : Fin 2) * 2048 ≤ (i 0).val ∧ (i 0).val < win0_7.index ⟨_, hN⟩ (0 : Fin 2) * 2048 + 2048; omega
  | ⟨1, _⟩ => show win0_7.index ⟨_, hN⟩ (1 : Fin 2) * 3 ≤ (i 1).val ∧ (i 1).val < win0_7.index ⟨_, hN⟩ (1 : Fin 2) * 3 + 3; omega

/-- THE REGION'S ARRAY: after all the grid's points it holds the formula's image. -/
theorem array_eq : (dats m 0 c).arrAt 7 cfg0.N = flat m c :=
  (dats m 0 c).arrAt_eq_of_cover 7 _ (written_eq m c) covered

end Cert.KernelIdeal.Splat

end
-- ==== Proof.KernelRun.lean ====
module

public import proofs.«01_k».proof.Proof.Tile

/-! # What the kernel's program returns

After the region one host operation reshapes its array, a row per pixel, to the 256 × 256 image; the arguments are as
they were. -/

@[expose] public section

noncomputable section

namespace Cert.KernelIdeal.Splat

open Cert.KernelIdeal Cert.KernelIdeal.Gen Idealize.ShloMosaic Idealize.ShloMosaic.TcCoe Idealize.SL.Sem
open Cert.Splat

variable (m : (ℓ : Loc nD τ sig) → Buf (Elt Ideal) ℓ) (ρ : Dev nD → PrngReg)

/-- The program's result: the region's array, reshaped. -/
def result (c : Dev nD) : Buf (Elt Ideal) ((c : Thread nD τ).loc main_v50) :=
  shapeCast S256x256x3 (flat m c) shapeCasts_S65536x3_S256x256x3

/-- What the line after the region leaves in the result's buffer. -/
theorem tail_eq (c : Dev nD) :
    Pipeline.afterTail₀ cfgs (dats m) 0 (V0 m) [hostOps1] c main_v50 = result m c := by
  have hw : Pipeline.withArrays spec0 c (V0 m c) (fun w => (dats m 0 c).arrAt w cfg0.N) (Proc.devRef .tc main_v49) = flat m c :=
    (Pipeline.withArrays_arr spec0 winFacts0.arr_inj c (V0 m c) (fun w => (dats m 0 c).arrAt w cfg0.N) 7).trans (array_eq m c)
  unfold Pipeline.afterTail₀ hostOps1
  simp only [List.flatten_cons, List.flatten_nil, List.append_nil]
  after_results_simp
  exact congrArg (fun A => shapeCast S256x256x3 A shapeCasts_S65536x3_S256x256x3) hw

/-- A row per pixel reshaped to the image: row `y`, column `x` is pixel `y * 256 + x`. -/
theorem reshape_apply (A : Vec Ideal S65536x3 .f32) (y x : Fin 256) (ch : Fin 3) :
    shapeCast S256x256x3 A shapeCasts_S65536x3_S256x256x3 (ix3 y x ch) = A (ix2 ⟨y.val * 256 + x.val, by omega⟩ ch) := by
  pointwise

/-- THE RESULT AT A PIXEL: row `y`, column `x`, channel `ch` is the formula's image there. -/
theorem result_apply (c : Dev nD) (y x : Fin 256) (ch : Fin 3) :
    result m c (ix3 y x ch)
      = image (mxs m c) (mys m c) (l0s m c) (l1s m c) (rots m c) (ops m c) (cols m c ch) x y := by
  have hx : (y.val * 256 + x.val) % 256 = x.val := by omega
  have hy : (y.val * 256 + x.val) / 256 = y.val := by omega
  have hf : flat m c (ix2 ⟨y.val * 256 + x.val, by omega⟩ ch) = image (mxs m c) (mys m c) (l0s m c) (l1s m c) (rots m c)
      (ops m c) (cols m c ch) ((y.val * 256 + x.val) % 256) ((y.val * 256 + x.val) / 256) := rfl
  rw [hx, hy] at hf
  exact (reshape_apply (flat m c) y x ch).trans hf

/-- THE RUN: every execution of the program ends with its result at `result` and its arguments as they were. -/
theorem run : θ_run defs (onTc (τ := τ) (main (F := Ideal))) ⟨m, fun _ => 0, ρ⟩ fun r => ∀ c : Dev nD,
      r.2.mem ((c : Thread nD τ).loc main_v50) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h.1 c).2 main_v50 (Pipeline.mem_restRefs_of main_v50 (by decide) (by decide))).trans (tail_eq m c), h.2 c⟩)
    (θ_run_and (run_main m ρ) (unchanged m ρ))

end Cert.KernelIdeal.Splat

end
-- ==== Proof.Reference.lean ====
module

public import proofs.«01_k».proof.Proof.Gen.ReferenceIdeal.Run
public import proofs.«01_k».proof.Proof.Light
public import proofs.«01_k».proof.Proof.Pixel
public import Idealize.ShloMosaic.Lib.Pointwise

/-! # The reference, read at a pixel

The reference multiplies the whole matrix of lights, a row per pixel and a column per splat, by the colours; read at a
pixel and a channel it is the formula's image. -/

@[expose] public section

noncomputable section

namespace Cert.ReferenceIdeal.Splat

open Cert.ReferenceIdeal Cert.ReferenceIdeal.Gen Idealize.ShloMosaic Idealize.ShloMosaic.TcCoe Idealize.SL.Sem
open Cert.Splat

/-- THE REFERENCE AT A PIXEL: row `y`, column `x`, channel `ch` of its result is the formula's image there. -/
theorem result_apply (m : (ℓ : Loc nD τ sig) → Buf (Elt Ideal) ℓ) (c : Dev nD) (y x : Fin 256) (ch : Fin 3) :
    Value.res_out0 m c (ix3 y x ch) = image
      (fun n => m ((c : Thread nD τ).loc main_arg0) (ix2 n 0)) (fun n => m ((c : Thread nD τ).loc main_arg0) (ix2 n 1))
      (fun n => m ((c : Thread nD τ).loc main_arg1) (ix2 n 0)) (fun n => m ((c : Thread nD τ).loc main_arg1) (ix2 n 1))
      (fun n => m ((c : Thread nD τ).loc main_arg2) (ix1 n)) (fun n => m ((c : Thread nD τ).loc main_arg4) (ix1 n))
      (fun n => m ((c : Thread nD τ).loc main_arg3) (ix2 n ch)) x y := by
  pointwise [Value.res_out0, Value.res_main_v86]
  simp only [word_value _ (show x.val < 2 ^ 31 by omega), word_value _ (show y.val < 2 ^ 31 by omega)]
  rfl

end Cert.ReferenceIdeal.Splat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were and every counter at zero: it uses no counter. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments the reference's result is the kernel's: pixel by pixel and channel by
    channel, each is the formula's image. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_out0 m' c = Cert.KernelIdeal.Splat.result m c := by
  funext i
  rw [show i = ix3 (i 0) (i 1) (i 2) from by funext a; fin_cases a <;> rfl]
  refine (Cert.ReferenceIdeal.Splat.result_apply m' c (i 0) (i 1) (i 2)).trans ?_
  rw [h0, h1, h2, h3, h4]
  exact (Cert.KernelIdeal.Splat.result_apply m c (i 0) (i 1) (i 2)).symm

/-- THE CERTIFICATE. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, by
  intro m ρ m' ρ' _ hagree
  refine ⟨fun c => Cert.KernelIdeal.Splat.result m c, Cert.KernelIdeal.Splat.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  exact results_eq m m' c h0 h1 h2 h3 h4⟩

end Cert.Proof

end
